-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x4096 : Shape := ⟨2, ![32768, 4096]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S32768x4096 : Shape := ⟨2, ![32768, 4096]⟩
abbrev S64x4096 : Shape := ⟨2, ![64, 4096]⟩
abbrev S32768x8 : Shape := ⟨2, ![32768, 8]⟩
abbrev S32768x64 : Shape := ⟨2, ![32768, 64]⟩
abbrev S1024x4096 : Shape := ⟨2, ![1024, 4096]⟩
abbrev S1024x8 : Shape := ⟨2, ![1024, 8]⟩
abbrev S1024x64 : Shape := ⟨2, ![1024, 64]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S32768x8, .i32⟩
  | .hbm, ⟨3, _⟩ => ⟨S32768x8, .f32⟩
  | .hbm, ⟨4, _⟩ => ⟨S32768x64, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S1024x8, .i32⟩
  | .local _ .vmem, ⟨4, _⟩ => ⟨S1024x8, .i32⟩
  | .local _ .vmem, ⟨5, _⟩ => ⟨S1024x8, .f32⟩
  | .local _ .vmem, ⟨6, _⟩ => ⟨S1024x8, .f32⟩
  | .local _ .vmem, ⟨7, _⟩ => ⟨S1024x64, .f32⟩
  | .local _ .vmem, ⟨8, _⟩ => ⟨S1024x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S32768x8 : Shape := ⟨2, ![32768, 8]⟩
abbrev S_ : Shape := ⟨0, ![]⟩
abbrev S32768 : Shape := ⟨1, ![32768]⟩
abbrev S32768x1 : Shape := ⟨2, ![32768, 1]⟩

abbrev nBuf : Space → Nat
  | .hbm => 20
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | .hbm, ⟨4, _⟩ => ⟨S32768x8, .f32⟩
  | .hbm, ⟨5, _⟩ => ⟨S32768x8, .i32⟩
  | .hbm, ⟨6, _⟩ => ⟨S_, .f32⟩
  | .hbm, ⟨7, _⟩ => ⟨S32768, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S32768x1, .f32⟩
  | .hbm, ⟨12, _⟩ => ⟨S32768x8, .f32⟩
  | .hbm, ⟨13, _⟩ => ⟨S32768x8, .f32⟩
  | .hbm, ⟨14, _⟩ => ⟨S32768x8, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S32768x8, .f32⟩
  | .hbm, ⟨19, _⟩ => ⟨S32768x8, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.Rows.lean ====
/-
  One row of scores, as a function from the row's positions to the extended reals: the kernel's way of ranking it and the
  reference's, and that they agree.

  The kernel picks by ROUNDS: the greatest score left, the first position that holds it, and that position's score set to −∞. The
  reference SORTS the row, greater first, positions of equal scores in order. Where no score is −∞ the position that round `r` picks is
  the position the sort puts at place `r` (`sortedFrom_eq_sel`), and the score found there is the row's own (`top_left`).
-/
module

public import Idealize.ShloMosaic.PureOps.Ideal.Laws
public import Idealize.ShloMosaic.Lib.SortFacts
public import Idealize.ShloMosaic.Lib.SortNet.Positions
public import Idealize.ShloMosaic.Lib.SortNet.Threshold
public import Mathlib.Data.EReal.Basic
public import Mathlib.Data.Prod.Lex

@[expose] public section

noncomputable section

namespace Cert.Rows

open Idealize.ShloMosaic Idealize.ShloMosaic.SortNet

variable {n : Nat}

/-! ## The greatest score and the first position that holds it -/

/-- The word that both programs start a maximum from is −∞. -/
theorem negInf : Ideal.ofBits .f32 0xFF800000#32 = ⊥ := by simp [Ideal.ofBits, Ideal.ieee]

/-- The greatest of the row's scores (−∞ for a row of none). -/
def top (x : Fin n → EReal) : EReal := Finset.univ.fold max ⊥ x

/-- No score exceeds it. -/
theorem le_top (x : Fin n → EReal) (e : Fin n) : x e ≤ top x :=
  (Finset.le_fold_max (x e)).mpr (Or.inr ⟨e, Finset.mem_univ e, le_rfl⟩)

/-- A bound on every score bounds it. -/
theorem top_le (x : Fin n → EReal) (b : EReal) (h : ∀ e, x e ≤ b) : top x ≤ b :=
  (Finset.fold_max_le b).mpr ⟨bot_le, fun e _ => h e⟩

variable [NeZero n]

/-- Some position holds it. -/
theorem exists_top (x : Fin n → EReal) : ∃ e, x e = top x := by
  obtain ⟨e, -, he⟩ := Finset.exists_max_image Finset.univ x ⟨0, Finset.mem_univ _⟩
  exact ⟨e, le_antisymm (le_top x e) (top_le x _ fun e' => he e' (Finset.mem_univ _))⟩

open Classical in
/-- The positions that hold the greatest score. -/
def tops (x : Fin n → EReal) : Finset (Fin n) := Finset.univ.filter fun e => x e = top x

/-- A position holds the greatest score exactly when it is one of them. -/
theorem mem_tops (x : Fin n → EReal) (e : Fin n) : e ∈ tops x ↔ x e = top x := by
  simp [tops]

/-- There is one. -/
theorem tops_nonempty (x : Fin n → EReal) : (tops x).Nonempty := by
  obtain ⟨e, he⟩ := exists_top x
  exact ⟨e, (mem_tops x e).mpr he⟩

/-- The first position that holds the greatest score. -/
def pick (x : Fin n → EReal) : Fin n := (tops x).min' (tops_nonempty x)

/-- It holds the greatest score. -/
theorem pick_top (x : Fin n → EReal) : x (pick x) = top x := (mem_tops x _).mp (Finset.min'_mem _ _)

/-- No earlier position does. -/
theorem pick_le (x : Fin n → EReal) (e : Fin n) (h : x e = top x) : pick x ≤ e :=
  Finset.min'_le _ _ ((mem_tops x e).mpr h)

/-! ## The rounds -/

/-- The scores left after one round: the picked position's is −∞. -/
def strike (x : Fin n → EReal) : Fin n → EReal := fun e => if e = pick x then ⊥ else x e

/-- The scores left after `r` rounds. -/
def left (x : Fin n → EReal) : Nat → Fin n → EReal
  | 0 => x
  | r + 1 => strike (left x r)

/-- The position that round `r` picks. -/
def sel (x : Fin n → EReal) (r : Nat) : Fin n := pick (left x r)

/-- The positions picked before round `r`. -/
def picked (x : Fin n → EReal) (r : Nat) : Finset (Fin n) := (Finset.range r).image (sel x)

/-- After `r` rounds the picked positions hold −∞ and the others their own scores. -/
theorem left_eq (x : Fin n → EReal) (r : Nat) (e : Fin n) : left x r e = if e ∈ picked x r then ⊥ else x e := by
  induction r with
  | zero => simp [left, picked]
  | succ r ih =>
    have hp : e ∈ picked x (r + 1) ↔ e = sel x r ∨ e ∈ picked x r := by
      simp [picked, Finset.range_add_one, Finset.image_insert]
    show (if e = sel x r then ⊥ else left x r e) = _
    by_cases h : e = sel x r
    · rw [if_pos h, if_pos (hp.mpr (Or.inl h))]
    · rw [if_neg h, ih]
      exact if_congr (by rw [hp]; simp [h]) rfl rfl

/-- While positions remain, a round over a row without −∞ picks a new one. -/
theorem sel_new (x : Fin n → EReal) (hx : ∀ e, x e ≠ ⊥) (r : Nat) (hr : r < n) : sel x r ∉ picked x r := by
  obtain ⟨e, he⟩ : ∃ e, e ∉ picked x r := by
    by_contra h
    push Not at h
    have h1 : (picked x r).card ≤ r := Finset.card_image_le.trans (Finset.card_range r).le
    rw [Finset.eq_univ_iff_forall.mpr h, Finset.card_univ, Fintype.card_fin] at h1
    omega
  intro h
  have h1 : left x r (sel x r) = ⊥ := by rw [left_eq, if_pos h]
  have h2 := le_top (left x r) e
  rw [left_eq, if_neg he] at h2
  have h3 : left x r (sel x r) = top (left x r) := pick_top (left x r)
  rw [← h3, h1] at h2
  exact hx e (le_bot_iff.mp h2)

/-- The greatest score left in round `r` is the row's own score at the position picked. -/
theorem top_left (x : Fin n → EReal) (hx : ∀ e, x e ≠ ⊥) (r : Nat) (hr : r < n) : top (left x r) = x (sel x r) := by
  rw [← pick_top (left x r)]
  show left x r (sel x r) = _
  rw [left_eq, if_neg (sel_new x hx r hr)]

/-- A position not picked before round `r` scores no more than the one round `r` picks, and comes later if it scores the same. -/
theorem sel_first (x : Fin n → EReal) (hx : ∀ e, x e ≠ ⊥) (r : Nat) (hr : r < n) (e : Fin n) (he : e ∉ picked x r) :
    x e < x (sel x r) ∨ x e = x (sel x r) ∧ sel x r ≤ e := by
  have h1 : left x r e = x e := by rw [left_eq, if_neg he]
  have h2 := le_top (left x r) e
  have h3 := top_left x hx r hr
  rw [h1, h3] at h2
  rcases lt_or_eq_of_le h2 with h | h
  · exact Or.inl h
  · exact Or.inr ⟨h, pick_le (left x r) e (by rw [h1, h3, h])⟩

/-! ## The sort -/

/-- A score with its position, in the order in which the sort lists them from the end: by score, and of equal scores the later
    position first. -/
def entry (x : Fin n → EReal) (e : Fin n) : EReal ×ₗ (Fin n)ᵒᵈ := toLex (x e, OrderDual.toDual e)

omit [NeZero n] in
/-- Entries at different positions differ. -/
theorem entry_injective (x : Fin n → EReal) : Function.Injective (entry x) := fun a b h => by
  have h1 := congrArg (fun p => OrderDual.ofDual (ofLex p).2) h
  exact h1

omit [NeZero n] in
/-- An entry is below another when its score is, or the scores are equal and its position comes later. -/
theorem entry_lt (x : Fin n → EReal) (a b : Fin n) : entry x a < entry x b ↔ x a < x b ∨ x a = x b ∧ b < a := by
  rw [entry, entry, Prod.Lex.toLex_lt_toLex]
  rfl

/-- Two orders that agree on each pair of a list's elements, asked of the later one first, sort the list alike. -/
theorem stableSort_agree {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

omit [NeZero n] in
/-- The stable sort by score alone, greater first, is the sort of the entries. -/
theorem sortedFrom_score (x : Fin n → EReal) :
    sortedFrom (fun a b : Fin n => decide (x b < x a)) = sortedFrom (greaterFirst (entry x)) := by
  have h : sortPositions n (fun a b : Fin n => decide (x b < x a)) = sortPositions n (greaterFirst (entry x)) := by
    refine stableSort_agree _ _ _ ((List.pairwise_lt_finRange n).imp fun {a b} hab => ?_)
    show decide (x a < x b) = decide (entry x a < entry x b)
    rw [decide_eq_decide, entry_lt]
    constructor
    · exact Or.inl
    · rintro (h | ⟨-, h⟩)
      · exact h
      · exact absurd hab h.asymm
  funext k
  unfold sortedFrom
  rw [List.get_of_eq h]
  rfl

/-- The entries of the positions that the first `k` rounds pick are, in order, the `k` greatest entries. -/
theorem sel_topList (x : Fin n → EReal) (hx : ∀ e, x e ≠ ⊥) (k : Nat) (hk : k ≤ n) :
    (List.range k).map (fun r => entry x (sel x r)) = topList k (List.ofFn (entry x)) := by
  have hmem : ∀ (r : Nat) (e : Fin n), entry x e ∈ (List.range r).map (fun t => entry x (sel x t)) ↔ e ∈ picked x r := fun r e => by
    simp only [List.mem_map, List.mem_range, picked, Finset.mem_image, Finset.mem_range, (entry_injective x).eq_iff]
  refine map_range_eq_topList (List.nodup_ofFn.mpr (entry_injective x)) _ k fun r hr => ⟨?_, ?_, fun y hy hn => ?_⟩
  · exact List.mem_ofFn.mpr ⟨_, rfl⟩
  · rw [hmem]
    exact sel_new x hx r (by omega)
  · obtain ⟨e, rfl⟩ := List.mem_ofFn.mp hy
    rw [hmem] at hn
    rw [← not_lt, entry_lt]
    rintro (h | ⟨h, h'⟩)
    · rcases sel_first x hx r (by omega) e hn with g | ⟨g, -⟩
      · exact absurd h g.asymm
      · exact absurd h (by rw [g]; exact lt_irrefl _)
    · rcases sel_first x hx r (by omega) e hn with g | ⟨-, g⟩
      · exact absurd g (by rw [h]; exact lt_irrefl _)
      · exact absurd h' (not_lt.mpr g)

/-- Place `r` of the stable sort of a row without −∞, greater scores first, comes from the position that round `r` picks. -/
theorem sortedFrom_eq_sel (x : Fin n → EReal) (hx : ∀ e, x e ≠ ⊥) (r : Fin n) :
    sortedFrom (fun a b : Fin n => decide (x b < x a)) r = sel x r.val := by
  rw [sortedFrom_score]
  have h := entry_sortedFrom_eq_topList (entry x) (entry_injective x) n r r.isLt
  rw [← sel_topList x hx n le_rfl, List.getElem?_map, List.getElem?_range r.isLt] at h
  exact entry_injective x (Option.some.inj h)

/-! ## The weights -/

/-- The greatest score of a later round is at most the first round's. -/
theorem top_left_le (x : Fin n → EReal) (r : Nat) : top (left x r) ≤ top x :=
  top_le _ _ fun e => by
    rw [left_eq]
    split
    · exact bot_le
    · exact le_top x e

/-- The weight of the `r`-th of the eight greatest: the exponential of its distance from the greatest, over the sum of the eight. -/
def weight (x : Fin n → EReal) (r : Fin 8) : EReal :=
  Ideal.div (Ideal.exp (top (left x r.val) - top x)) (∑ k : Fin 8, Ideal.exp (top (left x k.val) - top x))

end Cert.Rows

end

end
-- ==== Proof.Block.lean ====
/-
  What one block of the kernel computes, from its two input blocks: the block's scores, and from them the eight rounds of "the row's
  greatest, the first position that holds it, that position set to −∞". Each vector value of the body is read at an index as the
  corresponding function of that row (Rows.lean).
-/
module

public import proofs.«01_k».proof.Proof.Rows
public import proofs.«01_k».proof.Proof.Gen.KernelIdeal.Frame
public import Idealize.ShloMosaic.PureOps.Ideal.Laws
public import Idealize.ShloMosaic.Lib.Pipeline.Value
public import Idealize.ShloMosaic.Lib.ValueLayout
public import Idealize.ShloMosaic.Lib.ValueLayoutCasts
public import Idealize.ShloMosaic.Lib.WordCmp
public import Idealize.ShloMosaic.Lib.Pointwise

@[expose] public section

noncomputable section

namespace Cert.KernelIdeal.Block

open Cert.KernelIdeal Cert.KernelIdeal.Gen Cert.Rows Idealize.SL.Sem
open Idealize.ShloMosaic hiding ix1 ix2
open Idealize.ShloMosaic.ValueIdx (ix1 ix2 shapeCast_a_a1_apply select_apply cmpf_apply)

/-- A block of scores. -/
abbrev Scores := FVec Ideal S1024x64 .f32

/-! ## One round, as the body computes it -/

/-- The greatest score of each row, as a column. -/
def maxCol (x : Scores) : FVec Ideal S1024x1 .f32 :=
  shapeCast S1024x1 (multiReduction .maximumf [1] S1024 x 0xFF800000#32 reduces_S1024x64_S1024 (.inl rfl) rfl) shapeCasts_S1024_S1024x1

/-- The position numbers of every row. -/
def positions : IVec S1024x64 32 := iota .tc S1024x64 32 [1] iota_S1024x64_d1_w32

/-- The first position of each row that holds its greatest score. -/
def argVec (x : Scores) : IVec S1024 32 :=
  multiReductionI .minsi [1] S1024
    (select (cmpf .oeq x (broadcastTo S1024x64 (maxCol x) broadcasts_S1024x1_S1024x64)) positions (broadcast S1024x64 64#32))
    2147483647#32 reduces_S1024x64_S1024 rfl

/-- The same as a column. -/
def argCol (x : Scores) : IVec S1024x1 32 := shapeCast S1024x1 (argVec x) shapeCasts_S1024_S1024x1

/-- The scores with each row's picked position set to −∞. -/
def struck (x : Scores) : Scores :=
  select (cmpi .eq positions (broadcastTo S1024x64 (argCol x) broadcasts_S1024x1_S1024x64))
    (broadcast S1024x64 (Scalar.ofBits .f32 0xFF800000#32)) x

/-- The scores left after `r` rounds. -/
def leftOf (x : Scores) : Nat → Scores
  | 0 => x
  | r + 1 => struck (leftOf x r)

/-! ## A round read at a row -/

/-- Row `i` of a block of scores. -/
def row (x : Scores) (i : Fin 1024) : Fin 64 → EReal := fun e => x (ix2 i e)

/-- A row read at a position. -/
theorem row_apply (x : Scores) (i : Fin 1024) (e : Fin 64) : row x i e = x (ix2 i e) := rfl

/-- The source index over row `i` at position `e` is `(i, e)`. -/
theorem lift_row (i : Fin 1024) (e : Fin 64) :
    reduces_S1024x64_S1024.lift (ix1 i) e = ix2 i e := by
  funext c
  match c with
  | ⟨0, _⟩ => rfl
  | ⟨1, _⟩ => rfl

/-- The column of maxima at row `i` is the row's greatest score. -/
theorem maxCol_apply (x : Scores) (i : Fin 1024) (z : Fin 1) : maxCol x (ix2 i z) = top (row x i) := by
  refine (shapeCast_a_a1_apply _ _ i z).trans ((Ideal.multiReduction_maximumf_single x _ _ _ _ (ix1 i)).trans ?_)
  unfold top row
  rw [show FloatOps.ofBits (F := Ideal) .f32 0xFF800000#32 = ⊥ from negInf]
  congr 1
  funext e
  exact congrArg x (lift_row i e)

/-- A column spread along the row reads, at every position, the column's entry of that row. -/
theorem spread_apply {α : Type} (v : S1024x1.Idx → α) (i : Fin 1024) (e : Fin 64) :
    broadcastTo S1024x64 v broadcasts_S1024x1_S1024x64 (ix2 i e) = v (ix2 i (0 : Fin 1)) :=
  broadcastTo_apply v _ (ix2 i e) (ix2 i (0 : Fin 1)) fun a => by
    match a with
    | ⟨0, _⟩ => rfl
    | ⟨1, _⟩ => rfl

/-- Position `e` of a row, as the body numbers it. -/
theorem positions_apply (i : Fin 1024) (e : Fin 64) : positions (ix2 i e) = BitVec.ofNat 32 e.val := by
  unfold positions
  rw [WordCmp.iota_at]
  simp

/-- A small number, as a word read signed, is itself. -/
theorem toInt_small (k : Nat) (hk : k < 100) : (BitVec.ofNat 32 k).toInt = k := by
  rw [BitVec.toInt_ofNat', Int.bmod_eq_of_le (by omega) (by omega)]

/-- The signed minimum of two words, read signed, is the lesser. -/
theorem toInt_minsi (a b : BitVec 32) : (IntOp.minsi a b).toInt = min a.toInt b.toInt := by
  unfold IntOp.minsi
  rw [BitVec.slt_eq_decide]
  by_cases h : a.toInt < b.toInt
  · simp [h, min_eq_left (le_of_lt h)]
  · simp [h, min_eq_right (not_lt.mp h)]

/-- The signed minimum of "the position's number where the row holds its greatest score, else 64" is the number of the first
    position that holds it. -/
theorem fold_minsi_pick (y : Fin 64 → EReal) :
    (Finset.univ : Finset (Fin 64)).fold IntOp.minsi (2147483647#32)
        (fun e => Scalar.select (BitVec.ofBool (decide (y e = top y))) (BitVec.ofNat 32 e.val) 64#32)
      = BitVec.ofNat 32 (pick y).val := by
  have hsel : ∀ e : Fin 64, (Scalar.select (BitVec.ofBool (decide (y e = top y))) (BitVec.ofNat 32 e.val) 64#32).toInt
      = if y e = top y then (e.val : Int) else 64 := fun e => by
    by_cases h : y e = top y
    · rw [if_pos h, decide_eq_true h]
      exact toInt_small e.val (by omega)
    · rw [if_neg h, decide_eq_false h]
      rfl
  refine BitVec.eq_of_toInt_eq ?_
  rw [toInt_small _ (by omega), ← Finset.fold_hom (op' := min) (m := BitVec.toInt) toInt_minsi]
  refine le_antisymm ?_ ?_
  · refine (Finset.fold_min_le _).mpr (Or.inr ⟨pick y, Finset.mem_univ _, ?_⟩)
    rw [hsel, if_pos (pick_top y)]
  · refine (Finset.le_fold_min _).mpr ⟨?_, fun e _ => ?_⟩
    · have : (2147483647#32 : BitVec 32).toInt = 2147483647 := by decide
      omega
    · rw [hsel]
      split
      · next h => exact_mod_cast pick_le y e h
      · omega

/-- The picked positions at row `i`: the first that holds the row's greatest score. -/
theorem argVec_apply (x : Scores) (i : Fin 1024) : argVec x (ix1 i) = BitVec.ofNat 32 (pick (row x i)).val := by
  refine (multiReductionI_eq_fold .minsi _ _ reduces_S1024x64_S1024 rfl (ix1 i)).trans
    ((Shape.Reduces.fold_filter_drop_single reduces_S1024x64_S1024 IntOp.minsi _ _ (ix1 i)).trans ?_)
  rw [← fold_minsi_pick]
  congr 1
  funext (e : Fin 64)
  show select _ _ _ (reduces_S1024x64_S1024.lift (ix1 i) e) = _
  rw [lift_row i e, select_apply, positions_apply, cmpf_apply, spread_apply, maxCol_apply]
  rfl

theorem argCol_apply (x : Scores) (i : Fin 1024) (z : Fin 1) : argCol x (ix2 i z) = BitVec.ofNat 32 (pick (row x i)).val :=
  (shapeCast_a_a1_apply (argVec x) _ i z).trans (argVec_apply x i)

/-- One more round at row `i` and position `e`. -/
theorem struck_apply (x : Scores) (i : Fin 1024) (e : Fin 64) : struck x (ix2 i e) = strike (row x i) e := by
  unfold struck
  rw [select_apply]
  show Scalar.select (BitVec.ofBool (positions (ix2 i e) == broadcastTo S1024x64 (argCol x) broadcasts_S1024x1_S1024x64 (ix2 i e)))
    (Ideal.ofBits .f32 0xFF800000#32) _ = _
  rw [positions_apply, spread_apply, argCol_apply, negInf]
  unfold strike
  have hiff : (BitVec.ofNat 32 e.val = BitVec.ofNat 32 (pick (row x i)).val) ↔ e = pick (row x i) := by
    constructor
    · intro h
      have h1 := congrArg BitVec.toInt h
      rw [toInt_small _ (by omega), toInt_small _ (by omega)] at h1
      exact Fin.ext (by exact_mod_cast h1)
    · intro h
      rw [← h]
  by_cases h : e = pick (row x i)
  · rw [if_pos h, beq_iff_eq.mpr (hiff.mpr h)]
    rfl
  · rw [if_neg h, beq_eq_false_iff_ne.mpr fun g => h (hiff.mp g)]
    rfl

/-- Row `i` of the scores left after one more round. -/
theorem row_struck (x : Scores) (i : Fin 1024) : row (struck x) i = strike (row x i) := by
  funext e
  rw [row_apply, struck_apply]

/-- Row `i` after `r` rounds. -/
theorem row_leftOf (x : Scores) (i : Fin 1024) (r : Nat) : row (leftOf x r) i = left (row x i) r := by
  induction r with
  | zero => rfl
  | succ r ih =>
    show row (struck (leftOf x r)) i = strike (left (row x i) r)
    rw [row_struck, ih]

/-! ## The three blocks written -/

/-- The block's scores: the product of its input block with the whole weight block. -/
def scores (a : FVec Ideal S1024x4096 .f32) (b : FVec Ideal S64x4096 .f32) : Scores :=
  matmul dot_S1024x4096_S64x4096_S1024x64_1_1_0_0_n_n none a b (constant S1024x64 .f32 0x00000000#32)

/-- Eight columns side by side. -/
def beside {α : Type} (c : Nat → S1024x1.Idx → α) : S1024x8.Idx → α :=
  concatenate S1024x8 1 [⟨S1024x1, c 0⟩, ⟨S1024x1, c 1⟩, ⟨S1024x1, c 2⟩, ⟨S1024x1, c 3⟩, ⟨S1024x1, c 4⟩, ⟨S1024x1, c 5⟩, ⟨S1024x1, c 6⟩,
    ⟨S1024x1, c 7⟩] concatenates_S1024x1_S1024x1_S1024x1_S1024x1_S1024x1_S1024x1_S1024x1_S1024x1_S1024x8_d1

/-- Column `r` of eight side by side is the `r`-th. -/
theorem beside_apply {α : Type} (c : Nat → S1024x1.Idx → α) (i : Fin 1024) (r : Fin 8) :
    beside c (ix2 i r) = c r.val (ix2 i (0 : Fin 1)) := by
  show beside c (Idealize.ShloMosaic.ix2 i r) = _
  unfold beside
  pointwise
  fin_vals r with hk
  all_goals simp only [hk, Nat.reduceSub, Nat.reduceLT, ↓reduceDIte]
  all_goals rfl

/-- The weights of the eight greatest: each one's exponential of its distance from the first, over the sum of them. -/
def softened (v : FVec Ideal S1024x8 .f32) : FVec Ideal S1024x8 .f32 :=
  have e : FVec Ideal S1024x8 .f32 :=
    exp (subf v (broadcastTo S1024x8 (extractStridedSlice S1024x1 ![0, 0] v slices_S1024x8_o0_0_S1024x1) broadcasts_S1024x1_S1024x8))
  divf e (broadcastTo S1024x8 (shapeCast S1024x1 (multiReduction .add [1] S1024 e 0x00000000#32 reduces_S1024x8_S1024 (.inl rfl) rfl)
    shapeCasts_S1024_S1024x1) broadcasts_S1024x1_S1024x8)

/-- The offsets of a whole-buffer access are zero. -/
theorem zero2 : (![0, 0] : Fin 2 → Nat) = fun _ => 0 := funext fun a => by fin_cases a <;> rfl

/-- The block of scores that the body stores. -/
theorem out4_eq (a : Vec Ideal S1024x4096 .f32) (b : Vec Ideal S64x4096 .f32) : out0_4 a b = scores a b := by
  unfold_out out0_4
  rw [View.canon_unit_zero zero2, View.ld_unit_zero zero2, View.ld_unit_zero zero2]
  rfl

/-- The block of positions that the body stores: the eight rounds' picks side by side. -/
theorem out2_eq (a : Vec Ideal S1024x4096 .f32) (b : Vec Ideal S64x4096 .f32) :
    out0_2 a b = beside fun r => argCol (leftOf (scores a b) r) := by
  unfold_out out0_2
  rw [View.canon_unit_zero zero2, View.ld_unit_zero zero2, View.ld_unit_zero zero2]
  rfl

/-- The block of weights that the body stores. -/
theorem out3_eq (a : Vec Ideal S1024x4096 .f32) (b : Vec Ideal S64x4096 .f32) :
    out0_3 a b = softened (beside fun r => maxCol (leftOf (scores a b) r)) := by
  unfold_out out0_3
  rw [View.canon_unit_zero zero2, View.ld_unit_zero zero2, View.ld_unit_zero zero2]
  rfl

/-- The block's score of input row `i` against weight row `e`: the sum of their products. -/
theorem scores_apply (a : FVec Ideal S1024x4096 .f32) (b : FVec Ideal S64x4096 .f32) (i : Fin 1024) (e : Fin 64) :
    scores a b (ix2 i e) = ∑ k : Fin 4096, a (ix2 i k) * b (ix2 e k) := by
  show scores a b (Idealize.ShloMosaic.ix2 i e) = _
  unfold scores
  pointwise
  rfl

/-- The weight of the `r`-th of a row's eight. -/
theorem softened_apply (v : FVec Ideal S1024x8 .f32) (i : Fin 1024) (r : Fin 8) :
    softened v (ix2 i r) = Ideal.div (Ideal.exp (v (ix2 i r) - v (ix2 i (0 : Fin 8))))
      (∑ k : Fin 8, Ideal.exp (v (ix2 i k) - v (ix2 i (0 : Fin 8)))) := by
  show softened v (Idealize.ShloMosaic.ix2 i r) = _
  unfold softened
  pointwise
  rfl

end Cert.KernelIdeal.Block

end

end
-- ==== Proof.Array.lean ====
/-
  What the three result arrays hold at the end of the kernel's run, read at an index: row `I` of every result is a function of row `I` of
  the scores alone. Point `t` of the grid works on rows `1024 t … 1024 t + 1023`, and the points' blocks tile the arrays.
-/
module

public import proofs.«01_k».proof.Proof.Block
public import proofs.«01_k».proof.Proof.Gen.KernelIdeal.Value

@[expose] public section

noncomputable section

namespace Cert.KernelIdeal.Array

open Cert.KernelIdeal Cert.KernelIdeal.Gen Cert.KernelIdeal.Block Cert.Rows
open Idealize.ShloMosaic.TcCoe Idealize.SL Idealize.SL.Sem
open Idealize.ShloMosaic hiding ix1 ix2
open Idealize.ShloMosaic.ValueIdx (ix1 ix2)
open Idealize.ShloMosaic.Pipeline (Dat)

variable (m : (ℓ : Loc nD τ sig) → Buf (Elt Ideal) ℓ)

/-- Row `I` of the scores: input row `I` against each of the 64 weight rows. -/
def score (h : FVec Ideal S32768x4096 .f32) (w : FVec Ideal S64x4096 .f32) (I : Fin 32768) (e : Fin 64) : EReal :=
  ∑ k : Fin 4096, h (ix2 I k) * w (ix2 e k)

/-- Device `c`'s scores. -/
abbrev mine (c : Dev nD) : Fin 32768 → Fin 64 → EReal :=
  score (m ((c : Thread nD τ).loc main_arg0)) (m ((c : Thread nD τ).loc main_arg1))

/-- The positions array. -/
def places (y : Fin 32768 → Fin 64 → EReal) : IVec S32768x8 32 := fun j => BitVec.ofNat 32 (sel (y (j 0)) (j 1).val).val

/-- The weights array. -/
def weights (y : Fin 32768 → Fin 64 → EReal) : FVec Ideal S32768x8 .f32 := fun j => weight (y (j 0)) (j 1)

/-- The scores array. -/
def table (y : Fin 32768 → Fin 64 → EReal) : FVec Ideal S32768x64 .f32 := fun j => y (j 0) (j 1)

/-! ## The blocks as rows of the arrays -/

/-- The array row that row `i` of point `t`'s block is. -/
def rowAt (t : Fin cfg0.N) (i : Fin 1024) : Fin 32768 :=
  ⟨1024 * t.val + i.val, by have := t.isLt; have hN : cfg0.N = 32 := N_0; have := i.isLt; omega⟩

/-- Where each window's block starts: the four row-blocked windows at row block `t`, the weight matrix at the origin. -/
theorem starts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) :=
  (by decide +kernel : ∀ t : Fin grid0.N, _)

/-- An index of a two-axis array is the pair of its coordinates. -/
theorem pair {a b : Nat} (j : (⟨2, ![a, b]⟩ : Shape).Idx) : ∃ (i : Fin a) (r : Fin b), j = ix2 i r :=
  ⟨j 0, j 1, by funext k; match k with | ⟨0, _⟩ => rfl | ⟨1, _⟩ => rfl⟩

/-- An index whose coordinates have the values of `i` and `r` is the pair of them. -/
theorem eq_pair {a b : Nat} (j : (⟨2, ![a, b]⟩ : Shape).Idx) (i : Fin a) (r : Fin b) (h0 : (j 0).val = i.val) (h1 : (j 1).val = r.val) :
    j = ix2 i r := by
  obtain ⟨i', r', rfl⟩ := pair j
  rw [show i' = i from Fin.ext h0, show r' = r from Fin.ext h1]

/-- A position inside block `t` of 1024 rows, as an array coordinate. -/
theorem row_coord {x t i : Nat} (h : x = t) : x * 1024 + 1 * i = 1024 * t + i := by omega

/-- A position inside a block that starts at the origin, as an array coordinate. -/
theorem col_coord {x n i : Nat} (h : x = 0) : x * n + 1 * i = i := by subst h; omega

/-- Point `t`'s input block is its 1024 rows of the input. -/
theorem iblk0_apply (c : Dev nD) (t : Fin cfg0.N) (i : Fin 1024) (k : Fin 4096) :
    (iblk m c 0 t : Vec Ideal S1024x4096 .f32) (ix2 i k) = m ((c : Thread nD τ).loc main_arg0) (ix2 (rowAt t i) k) := by
  obtain ⟨⟨h0, h1⟩, -⟩ := starts t
  unfold iblk
  rw [View.read_apply]
  show V m c main_arg0 _ = m (c.tc.loc main_arg0) _
  unfold V
  exact congrArg (m (c.tc.loc main_arg0)) (eq_pair _ (rowAt t i) k (row_coord h0) (col_coord h1))

/-- The weight matrix is one block. -/
theorem iblk1_apply (c : Dev nD) (t : Fin cfg0.N) (e : Fin 64) (k : Fin 4096) :
    (iblk m c 1 t : Vec Ideal S64x4096 .f32) (ix2 e k) = m ((c : Thread nD τ).loc main_arg1) (ix2 e k) := by
  obtain ⟨-, ⟨h0, h1⟩, -⟩ := starts t
  unfold iblk
  rw [View.read_apply]
  show V m c main_arg1 _ = m (c.tc.loc main_arg1) _
  unfold V
  exact congrArg (m (c.tc.loc main_arg1)) (eq_pair _ e k (col_coord h0) (col_coord h1))

/-- A row of the block's scores is the array's row. -/
theorem row_scores (c : Dev nD) (t : Fin cfg0.N) (i : Fin 1024) :
    row (scores (iblk m c 0 t) (iblk m c 1 t)) i = mine m c (rowAt t i) := by
  funext e
  rw [row_apply, scores_apply]
  unfold mine score
  exact Finset.sum_congr rfl fun k _ => congrArg₂ (· * ·) (iblk0_apply m c t i k) (iblk1_apply m c t e k)

/-! ## What each point writes back: its block of the array -/

/-- Point `t` writes back its block of the positions. -/
theorem flushed2_eq (c : Dev nD) (t : Fin cfg0.N) :
    (dats m 0 c).flushed 2 t = (win0_2.blk t).view.read (Elt Ideal) (places (mine m c)) := by
  obtain ⟨-, -, ⟨h0, h1⟩, -⟩ := starts t
  rw [Value.flushed2, out2_eq]
  funext (j : S1024x8.Idx)
  obtain ⟨i, r, rfl⟩ := pair j
  rw [View.read_apply]
  refine Eq.trans ?_ (congrArg (places (mine m c)) (eq_pair _ (rowAt t i) r (row_coord h0) (col_coord h1)).symm)
  show beside _ (ix2 i r) = _
  rw [beside_apply, argCol_apply, row_leftOf, row_scores]
  rfl

/-- Point `t` writes back its block of the weights. -/
theorem flushed3_eq (c : Dev nD) (t : Fin cfg0.N) :
    (dats m 0 c).flushed 3 t = (win0_3.blk t).view.read (Elt Ideal) (weights (mine m c)) := by
  obtain ⟨-, -, -, ⟨h0, h1⟩, -⟩ := starts t
  rw [Value.flushed3, out3_eq]
  funext (j : S1024x8.Idx)
  obtain ⟨i, r, rfl⟩ := pair j
  rw [View.read_apply]
  refine Eq.trans ?_ (congrArg (weights (mine m c)) (eq_pair _ (rowAt t i) r (row_coord h0) (col_coord h1)).symm)
  show softened _ (ix2 i r) = _
  rw [softened_apply]
  simp only [beside_apply, maxCol_apply, row_leftOf, row_scores]
  rfl

/-- Point `t` writes back its block of the scores. -/
theorem flushed4_eq (c : Dev nD) (t : Fin cfg0.N) :
    (dats m 0 c).flushed 4 t = (win0_4.blk t).view.read (Elt Ideal) (table (mine m c)) := by
  obtain ⟨-, -, -, -, ⟨h0, h1⟩⟩ := starts t
  rw [Value.flushed4, out4_eq]
  funext (j : S1024x64.Idx)
  obtain ⟨i, r, rfl⟩ := pair j
  rw [View.read_apply]
  refine Eq.trans ?_ (congrArg (table (mine m c)) (eq_pair _ (rowAt t i) r (row_coord h0) (col_coord h1)).symm)
  exact congrFun (row_scores m c t i) r

/-! ## The blocks tile the arrays -/

/-- The point whose block holds array row `I`. -/
def pointOf (I : Fin 32768) : Fin cfg0.N := ⟨I.val / 1024, by have := I.isLt; have hN : cfg0.N = 32 := N_0; omega⟩

/-- An index lies, on both axes, in the 1024 rows and all `b` columns that start at its row's block. -/
theorem inside {b : Nat} (j : (⟨2, ![32768, b]⟩ : Shape).Idx) (o s : Fin 2 → Nat)
    (h : (o 0 = (pointOf (j 0)).val * 1024 ∧ s 0 = 1024) ∧ o 1 = 0 ∧ s 1 = b) (a : Fin 2) : o a ≤ (j a).val ∧ (j a).val < o a + s a := by
  have hp : (pointOf (j 0)).val = (j 0).val / 1024 := rfl
  have h1 : (j 1).val < b := (j 1).isLt
  match a with
  | ⟨0, _⟩ => show o 0 ≤ (j 0).val ∧ (j 0).val < o 0 + s 0; omega
  | ⟨1, _⟩ => show o 1 ≤ (j 1).val ∧ (j 1).val < o 1 + s 1; omega

/-- Where the three result windows' blocks start and how far they go, in elements. -/
theorem extents : ∀ t : Fin cfg0.N,
    ((win0_2.index t 0 * win0_2.size 0 = t.val * 1024 ∧ win0_2.xsize (grid0.coords t) 0 = 1024)
      ∧ win0_2.index t 1 * win0_2.size 1 = 0 ∧ win0_2.xsize (grid0.coords t) 1 = 8)
    ∧ ((win0_3.index t 0 * win0_3.size 0 = t.val * 1024 ∧ win0_3.xsize (grid0.coords t) 0 = 1024)
      ∧ win0_3.index t 1 * win0_3.size 1 = 0 ∧ win0_3.xsize (grid0.coords t) 1 = 8)
    ∧ ((win0_4.index t 0 * win0_4.size 0 = t.val * 1024 ∧ win0_4.xsize (grid0.coords t) 0 = 1024)
      ∧ win0_4.index t 1 * win0_4.size 1 = 0 ∧ win0_4.xsize (grid0.coords t) 1 = 64) :=
  (by decide +kernel : ∀ t : Fin grid0.N, _)

/-- Every index of the positions is in a block that is written back. -/
theorem cover2 (j : S32768x8.Idx) : ∃ t : Fin cfg0.N, (cfg0.win 2).flush t = true ∧ j ∈ ((cfg0.win 2).blk t).view.set := by
  refine ⟨pointOf (j 0), flush0_2 _, ?_⟩
  show j ∈ ((View.whole main_v0_0).slice (win0_2.rect (pointOf (j 0)))).set
  rw [View.set_slice_whole, Rect.mem_set_unit]
  exact inside j _ _ (extents (pointOf (j 0))).1

/-- Every index of the weights is in a block that is written back. -/
theorem cover3 (j : S32768x8.Idx) : ∃ t : Fin cfg0.N, (cfg0.win 3).flush t = true ∧ j ∈ ((cfg0.win 3).blk t).view.set := by
  refine ⟨pointOf (j 0), flush0_3 _, ?_⟩
  show j ∈ ((View.whole main_v0_1).slice (win0_3.rect (pointOf (j 0)))).set
  rw [View.set_slice_whole, Rect.mem_set_unit]
  exact inside j _ _ (extents (pointOf (j 0))).2.1

/-- Every index of the scores is in a block that is written back. -/
theorem cover4 (j : S32768x64.Idx) : ∃ t : Fin cfg0.N, (cfg0.win 4).flush t = true ∧ j ∈ ((cfg0.win 4).blk t).view.set := by
  refine ⟨pointOf (j 0), flush0_4 _, ?_⟩
  show j ∈ ((View.whole main_v0_2).slice (win0_4.rect (pointOf (j 0)))).set
  rw [View.set_slice_whole, Rect.mem_set_unit]
  exact inside j _ _ (extents (pointOf (j 0))).2.2

/-! ## The run -/

variable (ρ : Dev nD → PrngReg)

/-- The kernel's run leaves the positions, the weights and the scores in its three result arrays, and its arguments as they were. -/
theorem run : θ_run defs (onTc (τ := τ) (main (F := Ideal))) ⟨m, fun _ => 0, ρ⟩ fun r => ∀ c : Dev nD,
    r.2.mem ((c : Thread nD τ).loc main_v0_0) = places (mine m c)
    ∧ r.2.mem ((c : Thread nD τ).loc main_v0_1) = weights (mine m c)
    ∧ r.2.mem ((c : Thread nD τ).loc main_v0_2) = table (mine m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c =>
    ⟨(h c).1.trans ((dats m 0 c).arrAt_eq_of_cover 2 _ (fun t _ => flushed2_eq m c t) cover2),
      (h c).2.1.trans ((dats m 0 c).arrAt_eq_of_cover 3 _ (fun t _ => flushed3_eq m c t) cover3),
      (h c).2.2.1.trans ((dats m 0 c).arrAt_eq_of_cover 4 _ (fun t _ => flushed4_eq m c t) cover4),
      (h c).2.2.2⟩)
    (Value.run_blocks m ρ)

end Cert.KernelIdeal.Array

end

end
-- ==== Proof.Plain.lean ====
/-
  What the reference's three results are, read at an index: the scores as sums of products, the eight greatest scores of a row and their
  positions from the row's sort, and the weights.
-/
module

public import proofs.«01_k».proof.Proof.Rows
public import proofs.«01_k».proof.Proof.Gen.ReferenceIdeal.Run
public import Idealize.ShloMosaic.PureOps.Ideal.Laws
public import Idealize.ShloMosaic.Lib.ValueLayout
public import Idealize.ShloMosaic.Lib.Pointwise

@[expose] public section

noncomputable section

namespace Cert.ReferenceIdeal.Plain

open Cert.ReferenceIdeal Cert.ReferenceIdeal.Gen Cert.Rows Idealize.SL.Sem
open Idealize.ShloMosaic hiding ix1 ix2
open Idealize.ShloMosaic.ValueIdx (ix1 ix2)

/-- The reference's scores. -/
def scores (h : FVec Ideal S32768x4096 .f32) (w : FVec Ideal S64x4096 .f32) : FVec Ideal S32768x64 .f32 :=
  Host.dotGeneral dot_S32768x4096_S4096x64_S32768x64_1_0_0_1_n_n none h (transpose S4096x64 [1, 0] w transposes_S64x4096_S4096x64_1_0)

/-- Each score is the sum of the products of an input row and a weight row. -/
theorem scores_apply (h : FVec Ideal S32768x4096 .f32) (w : FVec Ideal S64x4096 .f32) (i : Fin 32768) (e : Fin 64) :
    scores h w (ix2 i e) = ∑ k : Fin 4096, h (ix2 i k) * w (ix2 e k) := by
  show scores h w (Idealize.ShloMosaic.ix2 i e) = _
  unfold scores
  pointwise
  rfl

/-- The eight greatest scores of each row, greatest first. -/
def best (x : FVec Ideal S32768x64 .f32) : FVec Ideal S32768x8 .f32 :=
  (Host.topK S32768x8 1 (FloatOps.cmpfTotal .gt) x sliceFits_S32768x64_S32768x8).1

/-- Their positions. -/
def bestAt (x : FVec Ideal S32768x64 .f32) : IVec S32768x8 32 :=
  (Host.topK S32768x8 1 (FloatOps.cmpfTotal .gt) x sliceFits_S32768x64_S32768x8).2

/-- An index of the scores with its position replaced. -/
theorem along_row (i : Fin 32768) (e k : Fin 64) : Shape.Idx.along (s := S32768x64) (ix2 i e) 1 k = ix2 i k := by
  funext a
  match a with
  | ⟨0, _⟩ => rfl
  | ⟨1, _⟩ => rfl

/-- The position that the sort of row `i`, greater scores first, puts at place `r`. -/
def order (x : FVec Ideal S32768x64 .f32) (i : Fin 32768) (r : Fin 64) : Fin 64 :=
  sortedFrom (fun a b : Fin 64 => decide (x (ix2 i b) < x (ix2 i a))) r

/-- The sort of the scores with their positions, at an index of row `i`. -/
theorem sorted_apply (x : FVec Ideal S32768x64 .f32) (p : IVec S32768x64 32) (i : Fin 32768) (r : Fin 64) :
    (Host.sort2 S32768x64 1 (fun l r => FloatOps.cmpfTotal (F := Ideal) (φ := .f32) .gt l.1 r.1) x p).1 (ix2 i r) = x (ix2 i (order x i r))
    ∧ (Host.sort2 S32768x64 1 (fun l r => FloatOps.cmpfTotal (F := Ideal) (φ := .f32) .gt l.1 r.1) x p).2 (ix2 i r) = p (ix2 i (order x i r)) := by
  have ho : sortedFrom (fun k k' : Fin 64 => FloatOps.cmpfTotal (F := Ideal) (φ := .f32) .gt
      (x (Shape.Idx.along (s := S32768x64) (ix2 i r) 1 k)) (x (Shape.Idx.along (s := S32768x64) (ix2 i r) 1 k')) == 1#1) r = order x i r := by
    unfold order
    congr 1
    funext a b
    rw [along_row, along_row]
    show (BitVec.ofBool (decide _) == 1#1) = _
    cases decide (x (ix2 i b) < x (ix2 i a)) <;> rfl
  constructor
  · refine Eq.trans (b := x (Shape.Idx.along (s := S32768x64) (ix2 i r) 1 (order x i r))) ?_ (congrArg x (along_row i r _))
    rw [← ho]
    rfl
  · refine Eq.trans (b := p (Shape.Idx.along (s := S32768x64) (ix2 i r) 1 (order x i r))) ?_ (congrArg p (along_row i r _))
    rw [← ho]
    rfl

/-- The first eight columns of an array, read at an index. -/
theorem first_eight {α : Type} (x : S32768x64.Idx → α) (i : Fin 32768) (r : Fin 8) :
    extractStridedSlice S32768x8 (fun _ => 0) x sliceFits_S32768x64_S32768x8 (ix2 i r) = x (ix2 i (⟨r.val, by omega⟩ : Fin 64)) :=
  extractStridedSlice_apply _ _ _ _ _ fun a => match a with
    | ⟨0, _⟩ => (Nat.zero_add _).symm
    | ⟨1, _⟩ => (Nat.zero_add _).symm

/-- The `r`-th greatest score of row `i` is the score at place `r` of its sort. -/
theorem best_apply (x : FVec Ideal S32768x64 .f32) (i : Fin 32768) (r : Fin 8) :
    best x (ix2 i r) = x (ix2 i (order x i ⟨r.val, by omega⟩)) := by
  unfold best Host.topK
  dsimp only
  exact (first_eight _ i r).trans (sorted_apply x _ i _).1

/-- Its position is the position at that place. -/
theorem bestAt_apply (x : FVec Ideal S32768x64 .f32) (i : Fin 32768) (r : Fin 8) :
    bestAt x (ix2 i r) = BitVec.ofNat 32 (order x i ⟨r.val, by omega⟩).val := by
  unfold bestAt Host.topK
  dsimp only
  exact (first_eight _ i r).trans ((sorted_apply x _ i _).2.trans rfl)

/-- The greatest of the eight, as the reference takes it. -/
def peak (v : FVec Ideal S32768x8 .f32) : FVec Ideal S32768 .f32 :=
  maximumf (broadcastInDim S32768 ![] bcast_S_S32768 (constant S_ .f32 0xFF800000#32))
    (Host.reduce FloatOps.maximumf v (constant S_ .f32 0xFF800000#32) reducesTo_S32768x8_S32768_d1 h_S_)

/-- The exponentials of the eight's distances from the greatest. -/
def powers (v : FVec Ideal S32768x8 .f32) : FVec Ideal S32768x8 .f32 :=
  Host.exp (subf v (broadcastInDim S32768x8 ![0, 1] bcast_S32768x1_S32768x8_0_1
    (broadcastInDim S32768x1 ![0] bcast_S32768_S32768x1_0 (peak v))))

/-- The weights of the eight. -/
def softened (v : FVec Ideal S32768x8 .f32) : FVec Ideal S32768x8 .f32 :=
  Host.divf (powers v) (broadcastInDim S32768x8 ![0, 1] bcast_S32768x1_S32768x8_0_1
    (broadcastInDim S32768x1 ![0] bcast_S32768_S32768x1_0
      (Host.reduceAdd (powers v) (constant S_ .f32 0x00000000#32) reducesTo_S32768x8_S32768_d1 h_S_)))

/-- Each exponential. -/
theorem powers_apply (v : FVec Ideal S32768x8 .f32) (i : Fin 32768) (r : Fin 8) :
    powers v (ix2 i r) = Ideal.exp (v (ix2 i r) - peak v (ix1 i)) := by
  show powers v (Idealize.ShloMosaic.ix2 i r) = _
  unfold powers
  pointwise
  rfl

/-- Each weight. -/
theorem softened_apply (v : FVec Ideal S32768x8 .f32) (i : Fin 32768) (r : Fin 8) :
    softened v (ix2 i r) = Ideal.div (powers v (ix2 i r)) (∑ k : Fin 8, powers v (ix2 i k)) := by
  show softened v (Idealize.ShloMosaic.ix2 i r) = _
  unfold softened
  pointwise
  rfl

/-- The reference's greatest of row `i`'s eight is their maximum. -/
theorem peak_apply (v : FVec Ideal S32768x8 .f32) (i : Fin 32768) :
    peak v (ix1 i) = top fun r : Fin 8 => v (ix2 i r) := by
  show peak v (Idealize.ShloMosaic.ix1 i) = _
  unfold peak
  pointwise
  rw [negInf, max_eq_right bot_le]
  rfl

/-! ## Where no score is −∞: the reference's results are the kernel's row functions -/

/-- The positions are the rounds' picks. -/
theorem bestAt_eq (x : FVec Ideal S32768x64 .f32) (i : Fin 32768) (hx : ∀ e : Fin 64, x (ix2 i e) ≠ ⊥) (r : Fin 8) :
    bestAt x (ix2 i r) = BitVec.ofNat 32 (sel (fun e : Fin 64 => x (ix2 i e)) r.val).val := by
  rw [bestAt_apply]
  unfold order
  rw [sortedFrom_eq_sel (fun e : Fin 64 => x (ix2 i e)) hx]

/-- The eight greatest are the rounds' maxima. -/
theorem best_eq (x : FVec Ideal S32768x64 .f32) (i : Fin 32768) (hx : ∀ e : Fin 64, x (ix2 i e) ≠ ⊥) (r : Fin 8) :
    best x (ix2 i r) = top (left (fun e : Fin 64 => x (ix2 i e)) r.val) := by
  rw [best_apply, top_left _ hx r.val (by omega)]
  unfold order
  rw [sortedFrom_eq_sel (fun e : Fin 64 => x (ix2 i e)) hx]

/-- The greatest of the eight is the row's greatest. -/
theorem peak_best (x : FVec Ideal S32768x64 .f32) (i : Fin 32768) (hx : ∀ e : Fin 64, x (ix2 i e) ≠ ⊥) :
    peak (best x) (ix1 i) = top fun e : Fin 64 => x (ix2 i e) := by
  rw [peak_apply]
  refine le_antisymm (top_le _ _ fun r => ?_) ?_
  · rw [best_eq x i hx]
    exact top_left_le _ _
  · exact (best_eq x i hx 0).symm.le.trans (le_top (fun r : Fin 8 => best x (ix2 i r)) 0)

/-- The weights are the row's. -/
theorem softened_eq (x : FVec Ideal S32768x64 .f32) (i : Fin 32768) (hx : ∀ e : Fin 64, x (ix2 i e) ≠ ⊥) (r : Fin 8) :
    softened (best x) (ix2 i r) = weight (fun e : Fin 64 => x (ix2 i e)) r := by
  rw [softened_apply]
  simp only [powers_apply, peak_best x i hx, best_eq x i hx]
  rfl

end Cert.ReferenceIdeal.Plain

end

end
-- ==== Proof.Finite.lean ====
/-
  What the precondition gives: every entry of both arguments is a real number, so no score is −∞.
-/
module

public import proofs.«01_k».proof.Pre_finite
public import proofs.«01_k».proof.Proof.Gen.Pre_finite
public import Idealize.ShloMosaic.PureOps.Ideal.Laws
public import Idealize.ShloMosaic.Lib.ReduceAll

@[expose] public section

noncomputable section

namespace Cert.Finite

open Idealize.ShloMosaic Cert.Pre_finite Cert.Pre_finite.Gen

/-- The word that the precondition compares with is +∞. -/
theorem posInf : Ideal.ofBits .f32 0x7F800000#32 = ⊤ := by simp [Ideal.ofBits, Ideal.ieee]

/-- A number whose distance from zero is below +∞ is a real number. -/
theorem real_of_lt (x : EReal) (h : BitVec.ofBool (decide (max x (-x) < ⊤)) = 1#1) : ∃ r : ℝ, x = r := by
  have h' : max x (-x) < ⊤ := by
    by_contra hn
    rw [decide_eq_false hn] at h
    exact absurd h (by decide)
  induction x using EReal.rec with
  | bot => simp at h'
  | top => simp at h'
  | coe r => exact ⟨r, rfl⟩

/-- Both arguments hold real numbers only. -/
theorem reals (a : FVec Ideal S32768x4096 .f32) (b : FVec Ideal S64x4096 .f32) (h : fn (F := Ideal) a b = fun _ => 1#1) :
    (∀ j, ∃ r : ℝ, a j = (r : EReal)) ∧ ∀ j, ∃ r : ℝ, b j = (r : EReal) := by
  have hs : Subsingleton S_.Idx := ⟨fun x y => funext fun k => k.elim0⟩
  obtain ⟨ha, hb⟩ := IntOp.andi_eq_one.1 (congrFun h fun k => k.elim0)
  refine ⟨fun j => real_of_lt _ ?_, fun j => real_of_lt _ ?_⟩
  · have := Host.reduce_andi_all _ _ _ _ _ ha j
    rw [← posInf]
    exact this
  · have := Host.reduce_andi_all _ _ _ _ _ hb j
    rw [← posInf]
    exact this

/-- A sum of products of real numbers is not −∞. -/
theorem sum_ne_bot {ι : Type} (s : Finset ι) (f g : ι → EReal) (hf : ∀ k, ∃ r : ℝ, f k = r) (hg : ∀ k, ∃ r : ℝ, g k = r) :
    ∑ k ∈ s, f k * g k ≠ ⊥ := by
  classical
  suffices h : ∃ r : ℝ, ∑ k ∈ s, f k * g k = r by
    obtain ⟨r, hr⟩ := h
    rw [hr]
    exact EReal.coe_ne_bot r
  induction s using Finset.induction_on with
  | empty => exact ⟨0, by simp⟩
  | insert k s hk ih =>
    obtain ⟨r, hr⟩ := ih
    obtain ⟨x, hx⟩ := hf k
    obtain ⟨y, hy⟩ := hg k
    exact ⟨x * y + r, by rw [Finset.sum_insert hk, hr, hx, hy, EReal.coe_add, EReal.coe_mul]⟩

end Cert.Finite

end

end
-- ==== Proof.Equal.lean ====
/-
  The equation: where both arguments are finite, the reference's three results are the three arrays that the kernel leaves.
-/
module

public import proofs.«01_k».proof.Proof.Array
public import proofs.«01_k».proof.Proof.Plain
public import proofs.«01_k».proof.Proof.Finite

@[expose] public section

noncomputable section

namespace Cert.Equal

open Cert.KernelIdeal Cert.KernelIdeal.Array Cert.ReferenceIdeal.Plain Cert.Rows
open Idealize.ShloMosaic hiding ix1 ix2
open Idealize.ShloMosaic.ValueIdx (ix1 ix2)

variable (h : FVec Ideal S32768x4096 .f32) (w : FVec Ideal S64x4096 .f32)

/-- The reference's scores of a row are the kernel's. -/
theorem row_eq (i : Fin 32768) : (fun e : Fin 64 => scores h w (ix2 i e)) = score h w i :=
  funext fun e => scores_apply h w i e

/-- The scores agree, whatever the arguments hold. -/
theorem scores_eq : scores h w = table (score h w) := by
  funext j
  obtain ⟨i, e, rfl⟩ := pair j
  exact scores_apply h w i e

variable (hp : Cert.Pre_finite.fn (F := Ideal) h w = fun _ => 1#1)

include hp in
/-- No score is −∞. -/
theorem scores_ne_bot (i : Fin 32768) (e : Fin 64) : scores h w (ix2 i e) ≠ ⊥ := by
  obtain ⟨ha, hb⟩ := Cert.Finite.reals h w hp
  rw [scores_apply]
  exact Cert.Finite.sum_ne_bot _ _ _ (fun k => ha _) fun k => hb _

include hp in
/-- The positions agree. -/
theorem places_eq : bestAt (scores h w) = places (score h w) := by
  funext j
  obtain ⟨i, r, rfl⟩ := pair j
  rw [bestAt_eq _ i (scores_ne_bot h w hp i), row_eq]
  rfl

include hp in
/-- The weights agree. -/
theorem weights_eq : softened (best (scores h w)) = weights (score h w) := by
  funext j
  obtain ⟨i, r, rfl⟩ := pair j
  rw [softened_eq _ i (scores_ne_bot h w hp i), row_eq]
  rfl

end Cert.Equal

end

end
-- ==== Proof.lean ====
/-
  The certificate: each program's frame, the idealization's faithfulness, and that the kernel and the reference compute the same three
  results over the extended reals. The mathematics is in Proof/Rows (one row), Proof/Block (one block), Proof/Array (the kernel's arrays),
  Proof/Plain (the reference's results), Proof/Finite (the precondition) and Proof/Equal (the equation).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Equal
public import proofs.«01_k».proof.Proof.Gen.KernelIdeal.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference runs, keeps its arguments and leaves every counter at zero: it declares none. -/
theorem quiet (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0 :=
  (θ_run Cert.ReferenceIdeal.defs _ _).mono (fun r h => ⟨fun c => (h c).2.2.2, sem_eq_zero_of_no_sems (by decide) r.2⟩)
    (Cert.ReferenceIdeal.Value.run (F := Ideal) m ρ)

/-- The kernel's three results are the reference's, where both arguments are finite. -/
theorem equal : Cert.algebraic_KernelIdeal_ReferenceIdeal_pre_finite := by
  intro m ρ m' ρ' hp hagree
  refine ⟨fun c => Cert.KernelIdeal.Array.places (Cert.KernelIdeal.Array.mine m c),
    fun c => Cert.KernelIdeal.Array.weights (Cert.KernelIdeal.Array.mine m c),
    fun c => Cert.KernelIdeal.Array.table (Cert.KernelIdeal.Array.mine m c), Cert.KernelIdeal.Array.run m ρ, ?_⟩
  refine (θ_run Cert.ReferenceIdeal.defs _ _).mono (fun r h c => ?_) (Cert.ReferenceIdeal.Value.run (F := Ideal) m' ρ')
  obtain ⟨h0, h1, h2, hargs⟩ := h c
  rw [(hagree c).1, (hagree c).2] at h0 h1 h2
  exact ⟨h0.trans (Cert.Equal.places_eq _ _ (hp c)), h1.trans (Cert.Equal.weights_eq _ _ (hp c)),
    h2.trans (Cert.Equal.scores_eq _ _), hargs⟩

/-- Everything that is claimed. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => quiet m ρ, fun m ρ _ => quiet m ρ, trivial, equal⟩

end Cert.Proof

end
